-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_r_is_two [hPre_r_is_two : Cert.Pre_r_is_two.Facts] (m : (ℓ : Loc Cert.KernelIdeal.nD Cert.KernelIdeal.τ Cert.KernelIdeal.sig) → Buf (Elt Ideal) ℓ) : Prop :=
  ∀ c : Dev Cert.KernelIdeal.nD,
    (Cert.Pre_r_is_two.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_r_is_two [hPre_r_is_two : Cert.Pre_r_is_two.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_r_is_two.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_r_is_two [hKernelIdeal : Cert.KernelIdeal.Facts] [hPre_r_is_two : Cert.Pre_r_is_two.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_r_is_two m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_r_is_two [hReferenceIdeal : Cert.ReferenceIdeal.Facts] [hPre_r_is_two : Cert.Pre_r_is_two.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_r_is_two m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .f32 0x3421E89B#32 (((Real.sqrt 43980465111040)⁻¹ : ℝ) : EReal)

def algebraic_KernelIdeal_ReferenceIdeal_pre_r_is_two [hKernelIdeal : Cert.KernelIdeal.Facts] [hReferenceIdeal : Cert.ReferenceIdeal.Facts] [hPre_r_is_two : Cert.Pre_r_is_two.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_r_is_two m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_r_is_two : Cert.Pre_r_is_two.Facts),
    quiescent_Kernel (hKernel := hKernel)
    ∧ quiescent_KernelIdeal (hKernelIdeal := hKernelIdeal)
    ∧ quiescent_KernelIdeal_pre_r_is_two (hKernelIdeal := hKernelIdeal) (hPre_r_is_two := hPre_r_is_two)
    ∧ quiescent_ReferenceIdeal (hReferenceIdeal := hReferenceIdeal)
    ∧ quiescent_ReferenceIdeal_pre_r_is_two (hReferenceIdeal := hReferenceIdeal) (hPre_r_is_two := hPre_r_is_two)
    ∧ preserves_Kernel_KernelIdeal
    ∧ algebraic_KernelIdeal_ReferenceIdeal_pre_r_is_two (hKernelIdeal := hKernelIdeal) (hReferenceIdeal := hReferenceIdeal) (hPre_r_is_two := hPre_r_is_two)
-- ==== Pre_r_is_two.lean ====
abbrev S2097152x10x1 : Shape := ⟨3, ![2097152, 10, 1]⟩
abbrev S_ : Shape := ⟨0, ![]⟩

class Facts : Prop where

variable [Facts]

def fn {F : FTy → Type} [FloatOps F] (main_arg0 : FVec F S2097152x10x1 .f32) (main_arg1 : FVec F S2097152x10x1 .f32) (main_arg2 : IVec S_ 32) : IVec S_ 1 :=
  let main_c : IVec S_ 32 := constantI S_ 32 2#32
  let main_v0 : IVec S_ 1 := cmpi .eq main_arg2 main_c
  main_v0
-- ==== Kernel.lean ====
abbrev S2097152x10x1 : Shape := ⟨3, ![2097152, 10, 1]⟩
abbrev S_ : Shape := ⟨0, ![]⟩
abbrev S10x1x2097152 : Shape := ⟨3, ![10, 1, 2097152]⟩
abbrev S10x16384x128 : Shape := ⟨3, ![10, 16384, 128]⟩
abbrev S2x1x1 : Shape := ⟨3, ![2, 1, 1]⟩
abbrev S10x1024x128 : Shape := ⟨3, ![10, 1024, 128]⟩
abbrev S1x1x1 : Shape := ⟨3, ![1, 1, 1]⟩
abbrev S64x128 : Shape := ⟨2, ![64, 128]⟩
abbrev S1x64x128 : Shape := ⟨3, ![1, 64, 128]⟩
abbrev S1 : Shape := ⟨1, ![1]⟩

abbrev nBuf : Space → Nat
  | .hbm => 10
  | .vmem => 6
  | .smem => 0
  | _ => 0

abbrev bufTy : (tb : Table) → Fin (tcTables nBuf tb) → BufTy
  | .hbm, ⟨0, _⟩ => ⟨S2097152x10x1, .f32⟩
  | .hbm, ⟨1, _⟩ => ⟨S2097152x10x1, .f32⟩
  | .hbm, ⟨2, _⟩ => ⟨S_, .i32⟩
  | .hbm, ⟨3, _⟩ => ⟨S10x1x2097152, .f32⟩
  | .hbm, ⟨4, _⟩ => ⟨S10x16384x128, .f32⟩
  | .hbm, ⟨5, _⟩ => ⟨S10x1x2097152, .f32⟩
  | .hbm, ⟨6, _⟩ => ⟨S10x16384x128, .f32⟩
  | .hbm, ⟨7, _⟩ => ⟨S2x1x1, .f32⟩
  | .hbm, ⟨8, _⟩ => ⟨S_, .f32⟩
  | .hbm, ⟨9, _⟩ => ⟨S_, .f32⟩
  | .local _ .vmem, ⟨0, _⟩ => ⟨S10x1024x128, .f32⟩
  | .local _ .vmem, ⟨1, _⟩ => ⟨S10x1024x128, .f32⟩
  | .local _ .vmem, ⟨2, _⟩ => ⟨S10x1024x128, .f32⟩
  | .local _ .vmem, ⟨3, _⟩ => ⟨S10x1024x128, .f32⟩
  | .local _ .vmem, ⟨4, _⟩ => ⟨S1x1x1, .f32⟩
  | .local _ .vmem, ⟨5, _⟩ => ⟨S1x1x1, .f32⟩
  | _, _ => ⟨S2097152x10x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== KernelIdeal.lean ====
variable {F : FTy → Type} [FloatOps F] [Named F]
def κ : String → Option EReal := fun
  | "scale" => some (((Real.sqrt 43980465111040)⁻¹ : ℝ) : EReal)
  | _ => none
-- ==== ReferenceIdeal.lean ====
abbrev S2097152x10x1 : Shape := ⟨3, ![2097152, 10, 1]⟩
abbrev S_ : Shape := ⟨0, ![]⟩
abbrev S2097152x10 : Shape := ⟨2, ![2097152, 10]⟩
abbrev S2097152 : Shape := ⟨1, ![2097152]⟩

abbrev nBuf : Space → Nat
  | .hbm => 28
  | .vmem => 0
  | .smem => 0
  | _ => 0

abbrev bufTy : (tb : Table) → Fin (tcTables nBuf tb) → BufTy
  | .hbm, ⟨0, _⟩ => ⟨S2097152x10x1, .f32⟩
  | .hbm, ⟨1, _⟩ => ⟨S2097152x10x1, .f32⟩
  | .hbm, ⟨2, _⟩ => ⟨S_, .i32⟩
  | .hbm, ⟨3, _⟩ => ⟨S2097152x10x1, .f32⟩
  | .hbm, ⟨4, _⟩ => ⟨S2097152x10, .f32⟩
  | .hbm, ⟨5, _⟩ => ⟨S_, .f32⟩
  | .hbm, ⟨6, _⟩ => ⟨S_, .f32⟩
  | .hbm, ⟨7, _⟩ => ⟨S2097152x10, .f32⟩
  | .hbm, ⟨8, _⟩ => ⟨S2097152x10, .f32⟩
  | .hbm, ⟨9, _⟩ => ⟨S_, .f32⟩
  | .hbm, ⟨10, _⟩ => ⟨S_, .f32⟩
  | .hbm, ⟨11, _⟩ => ⟨S2097152x10, .f32⟩
  | .hbm, ⟨12, _⟩ => ⟨S2097152x10, .f32⟩
  | .hbm, ⟨13, _⟩ => ⟨S_, .f32⟩
  | .hbm, ⟨14, _⟩ => ⟨S2097152, .f32⟩
  | .hbm, ⟨15, _⟩ => ⟨S_, .f32⟩
  | .hbm, ⟨16, _⟩ => ⟨S2097152, .f32⟩
  | .hbm, ⟨17, _⟩ => ⟨S2097152, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2097152, .f32⟩
  | .hbm, ⟨23, _⟩ => ⟨S2097152, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S2097152x10x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_call0_cst : Ref sig .tc := ⟨.hbm, 5, rfl⟩
abbrev main_call0_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Proof.Sample.lean ====
/- The mathematics of one sample and of sums of samples, over the extended reals: no program is named here. -/
module

public import Idealize.ShloMosaic.PureOps.Ideal
public import Idealize.ShloMosaic.Lib.Pointwise.Index

@[expose] public section

noncomputable section

namespace Cert.Sample

open Idealize.ShloMosaic

/-- The difference of the two histograms of sample `b` at bin `c` (zero outside the arrays). -/
def gap (p q : (⟨3, ![2097152, 10, 1]⟩ : Shape).Idx → EReal) (b c : ℕ) : EReal :=
  if h : b < 2097152 ∧ c < 10 then p (ix3 ⟨b, h.1⟩ ⟨c, h.2⟩ 0) - q (ix3 ⟨b, h.1⟩ ⟨c, h.2⟩ 0) else 0

/-- The sum of `d 0 … d c`. -/
def prefixSum (d : ℕ → EReal) (c : ℕ) : EReal := ∑ i ∈ Finset.range (c + 1), d i

/-- The sum of the squares of ten prefix sums. -/
def energy (d : ℕ → EReal) : EReal := ∑ c ∈ Finset.range 10, prefixSum d c * prefixSum d c

/-- The root of that sum. -/
def root (d : ℕ → EReal) : EReal := Ideal.sqrt (energy d)

/-- A prefix sum looks only at the first ten entries. -/
theorem prefixSum_congr {d e : ℕ → EReal} {c : ℕ} (hc : c < 10) (h : ∀ i, i < 10 → d i = e i) : prefixSum d c = prefixSum e c :=
  Finset.sum_congr rfl fun i hi => h i (by have := Finset.mem_range.mp hi; omega)

/-- Only the first ten entries count. -/
theorem root_congr {d e : ℕ → EReal} (h : ∀ i, i < 10 → d i = e i) : root d = root e := by
  unfold root energy
  congr 1
  exact Finset.sum_congr rfl fun c hc => by rw [prefixSum_congr (Finset.mem_range.mp hc) h]

/-- A sum over a product of ranges, row by row. -/
theorem sum_rows (f : ℕ → EReal) (b : ℕ) : ∀ a : ℕ,
    ∑ n ∈ Finset.range (a * b), f n = ∑ i ∈ Finset.range a, ∑ j ∈ Finset.range b, f (i * b + j)
  | 0 => by simp
  | a + 1 => by rw [Nat.add_mul, Nat.one_mul, Finset.sum_range_add, Finset.sum_range_succ, sum_rows f b a]

/-- The samples of one block, summed lane by lane and row by row with the chunks innermost. -/
theorem sum_chunks (f : ℕ → EReal) :
    (∑ r : Fin 64, ∑ l : Fin 128, ∑ k ∈ Finset.range 16, f ((k * 64 + r.val) * 128 + l.val))
      = ∑ n ∈ Finset.range 131072, f n := by
  have h : ∑ n ∈ Finset.range 131072, f n
      = ∑ k ∈ Finset.range 16, ∑ r ∈ Finset.range 64, ∑ l ∈ Finset.range 128, f ((k * 64 + r) * 128 + l) := by
    rw [show (131072 : ℕ) = 1024 * 128 from rfl, sum_rows, show (1024 : ℕ) = 16 * 64 from rfl, sum_rows]
  rw [h]
  symm
  calc ∑ k ∈ Finset.range 16, ∑ r ∈ Finset.range 64, ∑ l ∈ Finset.range 128, f ((k * 64 + r) * 128 + l)
      = ∑ r ∈ Finset.range 64, ∑ k ∈ Finset.range 16, ∑ l ∈ Finset.range 128, f ((k * 64 + r) * 128 + l) := Finset.sum_comm
    _ = ∑ r : Fin 64, ∑ k ∈ Finset.range 16, ∑ l ∈ Finset.range 128, f ((k * 64 + r.val) * 128 + l) := Finset.sum_range _
    _ = _ := Finset.sum_congr rfl fun r _ => Finset.sum_comm.trans (Finset.sum_range _)

/-- Whatever the prefix sums, finite or not, a square is not negative. -/
theorem sq_nonneg (x : EReal) : 0 ≤ x * x := by
  induction x with
  | bot => simp
  | top => simp
  | coe r => exact_mod_cast mul_self_nonneg r

/-- A sum of squares is not negative. -/
theorem energy_nonneg (d : ℕ → EReal) : 0 ≤ energy d := Finset.sum_nonneg fun _ _ => sq_nonneg _

/-- The root of a nonnegative value is not negative. -/
theorem sqrt_nonneg {x : EReal} (h : 0 ≤ x) : 0 ≤ Ideal.sqrt x := by
  induction x with
  | bot => simp at h
  | top => simp
  | coe r =>
    have hr : 0 ≤ r := by exact_mod_cast h
    rw [Ideal.sqrt_coe, if_neg (not_lt.mpr hr)]
    exact_mod_cast Real.sqrt_nonneg r

/-- A sample's root is not negative. -/
theorem root_nonneg (d : ℕ → EReal) : 0 ≤ root d := sqrt_nonneg (energy_nonneg d)

/-- A constant factor leaves a sum of nonnegative terms. -/
theorem sum_mul (s : EReal) (f : ℕ → EReal) (hf : ∀ n, 0 ≤ f n) : ∀ N : ℕ,
    ∑ n ∈ Finset.range N, f n * s = (∑ n ∈ Finset.range N, f n) * s
  | 0 => by simp
  | N + 1 => by
    rw [Finset.sum_range_succ, Finset.sum_range_succ, sum_mul s f hf N,
      EReal.right_distrib_of_nonneg (Finset.sum_nonneg fun _ _ => hf _) (hf N)]

/-- The square of a magnitude is the square. -/
theorem pow_abs_two (x : EReal) : Ideal.pow (max x (-x)) ((2 : ℝ) : EReal) = x * x := by
  induction x with
  | bot => simp
  | top => simp
  | coe r =>
    have h : max (r : EReal) (-(r : EReal)) = ((|r| : ℝ) : EReal) := by
      rw [abs_eq_max_neg, ← EReal.coe_neg]
      exact (EReal.coe_strictMono.monotone.map_max).symm
    rw [h, Ideal.pow_coe_coe]
    show ((|r| ^ (2 : ℝ) : ℝ) : EReal) = _
    rw [show (2 : ℝ) = ((2 : ℕ) : ℝ) by norm_num, Real.rpow_natCast, sq_abs, sq, EReal.coe_mul]

/-- The root of a tenth is the root times the inverse root of ten. -/
theorem pow_half (x : EReal) (h : 0 ≤ x) :
    Ideal.pow (Ideal.div x ((10 : ℝ) : EReal)) ((1 / 2 : ℝ) : EReal) = Ideal.sqrt x * (((Real.sqrt 10)⁻¹ : ℝ) : EReal) := by
  have hpos : (0 : ℝ) < (Real.sqrt 10)⁻¹ := by positivity
  rw [Ideal.div_coe (by norm_num)]
  induction x with
  | bot => simp at h
  | top =>
    rw [EReal.top_mul_coe_of_pos (by norm_num), Ideal.sqrt_top, EReal.top_mul_coe_of_pos hpos, Ideal.pow_top, if_pos]
    exact_mod_cast (by norm_num : (0 : ℝ) < 1 / 2)
  | coe r =>
    have hr : 0 ≤ r := by exact_mod_cast h
    rw [← EReal.coe_mul, Ideal.pow_coe_coe, Ideal.sqrt_coe, if_neg (not_lt.mpr hr), ← EReal.coe_mul]
    congr 1
    show (r * (1 / 10)) ^ (1 / 2 : ℝ) = _
    rw [← Real.sqrt_eq_rpow, Real.sqrt_mul hr, one_div, Real.sqrt_inv]

/-- The two constants of the reference multiply to the kernel's one. -/
theorem scales : (Real.sqrt 10)⁻¹ * (1 / 2097152 : ℝ) = (Real.sqrt 43980465111040)⁻¹ := by
  rw [show (43980465111040 : ℝ) = 10 * 2097152 ^ 2 by norm_num, Real.sqrt_mul (by norm_num), Real.sqrt_sq (by norm_num), mul_inv,
    one_div]

end Cert.Sample

end
-- ==== Proof.Block.lean ====
/- What one run of the kernel's body leaves in its output block, as a formula over the two input blocks. -/
module

public import proofs.«01_k».proof.Proof.Gen.KernelIdeal.Frame
public import Idealize.ShloMosaic.Lib.Pipeline.Value
public import Idealize.ShloMosaic.Lib.Pointwise
public import proofs.«01_k».proof.Proof.Sample

@[expose] public section

set_option maxRecDepth 16384

noncomputable section

namespace Cert.KernelIdeal.Block

open Idealize.ShloMosaic Idealize.ShloMosaic.TcCoe Idealize.ShloMosaic.Tactic
open Idealize.SL.Sem
open Cert.KernelIdeal Cert.KernelIdeal.Gen

variable {F : FTy → Type} [FloatOps F] [Named F]

/-- Rows `64 k … 64 k + 63` of channel `c` lie inside the block. -/
theorem slab_inb (c k : ℕ) : ∀ a, (![c % 10, 64 * (k % 16), 0] : Fin 3 → ℕ) a + S1x64x128.size a ≤ S10x1024x128.size a := by
  have hc : c % 10 < 10 := Nat.mod_lt _ (by decide)
  have hk : k % 16 < 16 := Nat.mod_lt _ (by decide)
  intro a
  fin_cases a
  · show c % 10 + 1 ≤ 10; omega
  · show 64 * (k % 16) + 64 ≤ 1024; omega
  · show 0 + 128 ≤ 128; omega

/-- The 64 rows of chunk `k` of channel `c`, read from a staged block. -/
def slab (a : Memref sig .tc .vmem S10x1024x128 .f32) (ha : a.IsWhole) (x : Vec F S10x1024x128 .f32) (c k : ℕ) : FVec F S64x128 .f32 :=
  shapeCast S64x128
    (View.readAt (Elt F) a.view (Rect.unit (s := S10x1024x128) ![c % 10, 64 * (k % 16), 0] S1x64x128.size (slab_inb c k)).toLoadRect (ha.unread x))
    shapeCasts_S1x64x128_S64x128

/-- The 64 rows of chunk `k` of channel `c` of a block's contents. -/
def chunk (x : Vec F S10x1024x128 .f32) (c k : ℕ) : FVec F S64x128 .f32 :=
  shapeCast S64x128
    (View.ld (Val := Elt F) (e' := .f32) x (Rect.unit (s := S10x1024x128) ![c % 10, 64 * (k % 16), 0] S1x64x128.size (slab_inb c k)))
    shapeCasts_S1x64x128_S64x128

/-- The differences of two blocks, chunk by chunk and channel by channel. -/
def gaps (x0 x1 : Vec F S10x1024x128 .f32) (k c : ℕ) : FVec F S64x128 .f32 := subf (chunk x0 c k) (chunk x1 c k)

/-- The running sum of the first `c + 1` differences. -/
def runV (d : ℕ → FVec F S64x128 .f32) : ℕ → FVec F S64x128 .f32
  | 0 => d 0
  | c + 1 => addf (runV d c) (d (c + 1))

/-- The sum of the squares of the first `c + 1` running sums. -/
def accV (d : ℕ → FVec F S64x128 .f32) : ℕ → FVec F S64x128 .f32
  | 0 => mulf (d 0) (d 0)
  | c + 1 => addf (accV d c) (mulf (runV d (c + 1)) (runV d (c + 1)))

/-- The roots of the first `k` chunks, added up from zero. -/
def partV (D : ℕ → ℕ → FVec F S64x128 .f32) : ℕ → FVec F S64x128 .f32
  | 0 => k0_pay3
  | k + 1 => addf (partV D k) (sqrt (accV (D k) 9))

/-- The block's last step: the chunks' roots summed, scaled, and added to what the output block held. -/
def closeV (v : FVec F S64x128 .f32) (o : Vec F S1x1x1 .f32) : FVec F S1x1x1 .f32 :=
  addf (shapeCast S1x1x1 o shapeCasts_S1x1x1_S1x1x1)
    (broadcast S1x1x1 (Scalar.mulf
      (extractAt ![0, 0, 0] (shapeCast S1x1x1
        (multiReduction .add [1, 2] S1 (shapeCast S1x64x128 v shapeCasts_S64x128_S1x64x128) 0x00000000#32 reduces_S1x64x128_S1 (.inl rfl) rfl)
        shapeCasts_S1_S1x1x1) inpos_S1x1x1_p0_0_0)
      (Named.named κ "scale" 0x3421E89B#32)))

/-- The body's stored value when it adds to what the output block held. -/
theorem stored_B (c : Dev nD) (arg2 : Memref sig .tc .vmem S10x1024x128 .f32) (harg2 : arg2.IsWhole)
    (arg3 : Memref sig .tc .vmem S10x1024x128 .f32) (harg3 : arg3.IsWhole) (x0 x1 : Vec F S10x1024x128 .f32) (o : Vec F S1x1x1 .f32) :
    k0_pay1 (kernelRun0_B.sl.v1203 c arg2 harg2 arg3 harg3 x0 x1)
            (kernelRun0_B.sl.r_5 c arg2 harg2 arg3 harg3 x0 x1) (kernelRun0_B.sl.r_6 c arg2 harg2 arg3 harg3 x0 x1)
            (kernelRun0_B.sl.r_7 c arg2 harg2 x0) (kernelRun0_B.sl.r_8 c arg3 harg3 x1) o
      = closeV (partV (fun k c => subf (slab arg2 harg2 x0 c k) (slab arg3 harg3 x1 c k)) 16) o := by
  sl_kernel_rfl

/-- The body's stored value when the output block has just been set to zero: the same formula. -/
theorem stored_A (c : Dev nD) (arg2 : Memref sig .tc .vmem S10x1024x128 .f32) (harg2 : arg2.IsWhole)
    (arg3 : Memref sig .tc .vmem S10x1024x128 .f32) (harg3 : arg3.IsWhole) (x0 x1 : Vec F S10x1024x128 .f32) (o : Vec F S1x1x1 .f32) :
    k0_pay1 (kernelRun0_A.sl.v1203 c arg2 harg2 arg3 harg3 x0 x1)
            (kernelRun0_A.sl.r_5 c arg2 harg2 arg3 harg3 x0 x1) (kernelRun0_A.sl.r_6 c arg2 harg2 arg3 harg3 x0 x1)
            (kernelRun0_A.sl.r_7 c arg2 harg2 x0) (kernelRun0_A.sl.r_8 c arg3 harg3 x1) o
      = closeV (partV (fun k c => subf (slab arg2 harg2 x0 c k) (slab arg3 harg3 x1 c k)) 16) o := by
  sl_kernel_rfl

/-- Reading a staged block is reading its contents. -/
theorem slab_eq (a : Memref sig .tc .vmem S10x1024x128 .f32) (ha : a.IsWhole) (x : Vec F S10x1024x128 .f32) (c k : ℕ) :
    slab a ha x c k = chunk x c k := by
  unfold slab chunk
  rw [View.readAt_eq_ld, ha.read_unread]

/-- The zero offsets, as a constant function. -/
theorem hz3 : (![0, 0, 0] : Fin 3 → ℕ) = fun _ => 0 := by
  funext a; fin_cases a <;> rfl

/-- What the body leaves when it adds to `o`. -/
theorem out_B (c : Dev nD) (i : grid0.Coords) (arg2 : Memref sig .tc .vmem S10x1024x128 .f32) (harg2 : arg2.IsWhole) (arg3 : Memref sig .tc .vmem S10x1024x128 .f32) (harg3 : arg3.IsWhole) (arg4 : Memref sig .tc .vmem S1x1x1 .f32) (harg4 : arg4.IsWhole) (hc0 : ¬cond0_0 i)
    (x0 x1 : Vec F S10x1024x128 .f32) (o : Vec F S1x1x1 .f32) :
    out0_B_2 c i arg2 harg2 arg3 harg3 arg4 harg4 hc0 x0 x1 o = closeV (partV (gaps x0 x1) 16) o := by
  unfold out0_B_2
  rw [View.read_writes_eq_canon _ _ _ (cover0_B_2 c i arg2 harg2 arg3 harg3 arg4 harg4 hc0 x0 x1 o)]
  unfold kernelRun0_B
  dsimp only
  rw [View.canon_unit_zero (S := S1x1x1) hz3, stored_B]
  simp only [View.readAt_eq_ld, harg4.read_unread, View.ld_unit_zero (S := S1x1x1) hz3, slab_eq]
  rfl

/-- What the body leaves at the first block of a row of the grid. -/
theorem out_A (c : Dev nD) (i : grid0.Coords) (arg2 : Memref sig .tc .vmem S10x1024x128 .f32) (harg2 : arg2.IsWhole) (arg3 : Memref sig .tc .vmem S10x1024x128 .f32) (harg3 : arg3.IsWhole) (arg4 : Memref sig .tc .vmem S1x1x1 .f32) (harg4 : arg4.IsWhole) (hc0 : cond0_0 i)
    (x0 x1 : Vec F S10x1024x128 .f32) :
    out0_A_2 c i arg2 harg2 arg3 harg3 arg4 harg4 hc0 x0 x1 = closeV (partV (gaps x0 x1) 16) k0_pay2 := by
  unfold out0_A_2
  rw [View.read_writes_eq_canon _ _ _ (cover0_A_2 c i arg2 harg2 arg3 harg3 arg4 harg4 hc0 x0 x1)]
  unfold kernelRun0_A
  dsimp only
  rw [View.canon_cons_unit_zero (S := S1x1x1) hz3, stored_A]
  simp only [slab_eq]
  sl_unfold_words
  rw [View.readCov_unit_zero (S := S1x1x1) _ hz3]
  rfl

/-- The named constant is the inverse root of `10 · 2097152²`. -/
theorem named_eq : (Named.named κ "scale" 0x3421E89B#32 : Ideal .f32) = (((Real.sqrt 43980465111040)⁻¹ : ℝ) : EReal) := by
  rfl

/-- The last step read at an index. -/
theorem close_apply (v : FVec Ideal S64x128 .f32) (o : Vec Ideal S1x1x1 .f32) (a b d : Fin 1) :
    closeV v o (ix3 a b d) =
      o (ix3 a b d) + (∑ r : Fin 64, ∑ l : Fin 128, v (ix2 r l)) * (((Real.sqrt 43980465111040)⁻¹ : ℝ) : EReal) := by
  pointwise [closeV, named_eq]

/-- A one-channel slab without its channel axis. -/
theorem flat_apply (w : Vec Ideal S1x64x128 .f32) (r : Fin 64) (l : Fin 128) :
    shapeCast S64x128 w shapeCasts_S1x64x128_S64x128 (ix2 r l) = w (ix3 0 r l) := by
  pointwise

/-- A chunk read at an index. -/
theorem chunk_apply (x : Vec Ideal S10x1024x128 .f32) (c k : ℕ) (hc : c < 10) (hk : k < 16) (r : Fin 64) (l : Fin 128) :
   chunk x c k (ix2 r l) = x (ix3 ⟨c, hc⟩ ⟨64 * k + r.val, by omega⟩ l) := by
  unfold chunk
  rw [flat_apply]
  refine congrArg x (funext fun a => Fin.ext ?_)
  fin_cases a
  · show c % 10 + 1 * 0 = c
    omega
  · show 64 * (k % 16) + 1 * r.val = 64 * k + r.val
    omega
  · show 0 + 1 * l.val = l.val
    omega

/-- The accumulator starts at zero. -/
theorem k0_pay3_apply (y : S64x128.Idx) : (k0_pay3 : FVec Ideal S64x128 .f32) y = 0 := by
  pointwise [k0_pay3]

/-- The output block starts at zero. -/
theorem k0_pay2_apply (y : S1x1x1.Idx) : (k0_pay2 : FVec Ideal S1x1x1 .f32) y = 0 := by
  pointwise [k0_pay2]

/-- A running sum read at an index. -/
theorem run_apply (d : ℕ → FVec Ideal S64x128 .f32) (y : S64x128.Idx) :
    ∀ c, runV d c y = ∑ i ∈ Finset.range (c + 1), d i y
  | 0 => by simp [runV]
  | c + 1 => by
    rw [Finset.sum_range_succ, ← run_apply d y c]
    rfl

/-- An accumulated sum of squares read at an index. -/
theorem acc_apply (d : ℕ → FVec Ideal S64x128 .f32) (y : S64x128.Idx) :
    ∀ c, accV d c y = ∑ i ∈ Finset.range (c + 1), Cert.Sample.prefixSum (fun n => d n y) i * Cert.Sample.prefixSum (fun n => d n y) i
  | 0 => by
    rw [Finset.sum_range_one]
    simp only [Cert.Sample.prefixSum, Finset.sum_range_one, Nat.zero_add]
    rfl
  | c + 1 => by
    rw [Finset.sum_range_succ, ← acc_apply d y c]
    unfold Cert.Sample.prefixSum
    rw [← run_apply d y (c + 1)]
    rfl

/-- The added roots read at an index. -/
theorem part_apply (D : ℕ → ℕ → FVec Ideal S64x128 .f32) (y : S64x128.Idx) :
    ∀ k, partV D k y = ∑ i ∈ Finset.range k, Cert.Sample.root (fun c => D i c y)
  | 0 => by
    rw [Finset.sum_range_zero]
    exact k0_pay3_apply y
  | k + 1 => by
    rw [Finset.sum_range_succ, ← part_apply D y k]
    unfold Cert.Sample.root Cert.Sample.energy
    rw [← acc_apply (D k) y 9]
    rfl

/-- What one block adds before scaling, when its two inputs hold the differences `g` of samples `131072 t …`. -/
theorem block_sum (x0 x1 : Vec Ideal S10x1024x128 .f32) (g : ℕ → ℕ → EReal) (t : ℕ)
    (hg : ∀ (c : Fin 10) (r : Fin 1024) (l : Fin 128),
      x0 (ix3 c r l) - x1 (ix3 c r l) = g ((t * 1024 + r.val) * 128 + l.val) c.val) :
    (∑ r : Fin 64, ∑ l : Fin 128, partV (gaps x0 x1) 16 (ix2 r l))
      = ∑ n ∈ Finset.range 131072, Cert.Sample.root (g (t * 131072 + n)) := by
  have h1 : ∀ (r : Fin 64) (l : Fin 128), partV (gaps x0 x1) 16 (ix2 r l)
      = ∑ k ∈ Finset.range 16, Cert.Sample.root (g (t * 131072 + ((k * 64 + r.val) * 128 + l.val))) := by
    intro r l
    rw [part_apply]
    refine Finset.sum_congr rfl fun k hk => ?_
    have hk' : k < 16 := Finset.mem_range.mp hk
    refine Cert.Sample.root_congr fun c hc => ?_
    show chunk x0 c k (ix2 r l) - chunk x1 c k (ix2 r l) = _
    rw [chunk_apply x0 c k hc hk', chunk_apply x1 c k hc hk', hg]
    congr 1
    show (t * 1024 + (64 * k + r.val)) * 128 + l.val = _
    ring
  simp only [h1]
  exact Cert.Sample.sum_chunks (fun n => Cert.Sample.root (g (t * 131072 + n)))

end Cert.KernelIdeal.Block

end
-- ==== Proof.Array.lean ====
/- What the kernel's result holds after the whole grid, and the number the program returns. -/
module

public import proofs.«01_k».proof.Proof.Block
public import proofs.«01_k».proof.Proof.Sample
public import Idealize.ShloMosaic.Lib.StableHlo.Run
public import Idealize.ShloMosaic.Lib.Tactic

@[expose] public section

set_option maxRecDepth 16384

noncomputable section

namespace Cert.KernelIdeal.Total

open Idealize.ShloMosaic Idealize.ShloMosaic.TcCoe Idealize.ShloMosaic.Tactic Idealize.ShloMosaic.StableHlo
open Idealize.SL.Sem
open Cert.KernelIdeal Cert.KernelIdeal.Gen

variable (m : (ℓ : Loc nD τ sig) → Buf (Elt Ideal) ℓ) (ρ : Dev nD → PrngReg)

/-- The first argument's contents. -/
abbrev argP (c : Dev nD) : FVec Ideal S2097152x10x1 .f32 := m ((c : Thread nD τ).loc main_arg0)
/-- The second argument's contents. -/
abbrev argQ (c : Dev nD) : FVec Ideal S2097152x10x1 .f32 := m ((c : Thread nD τ).loc main_arg1)

/-- The relayout the program gives the kernel: bins first, samples in rows of 128. -/
def laid (x : FVec Ideal S2097152x10x1 .f32) : FVec Ideal S10x16384x128 .f32 :=
  shapeCast S10x16384x128 (transpose S10x1x2097152 [1, 2, 0] x transposes_S2097152x10x1_S10x1x2097152_1_2_0) shapeCasts_S10x1x2097152_S10x16384x128

/-- An entry of the relayout: bin `ch` of sample `128 r + l`. -/
theorem laid_apply (x : FVec Ideal S2097152x10x1 .f32) (ch : Fin 10) (r : Fin 16384) (l : Fin 128) :
    laid x (ix3 ch r l) = x (ix3 ⟨r.val * 128 + l.val, by omega⟩ ch 0) := by
  pointwise [laid]

/-- What the kernel reads as its first operand. -/
theorem V_P (c : Dev nD) : V m c main_v1 = laid (argP m c) := by
  unfold V V0
  simp only [hostOps0, List.flatten_cons, List.flatten_nil, List.append_nil]
  after_results <;> rfl

/-- What the kernel reads as its second operand. -/
theorem V_Q (c : Dev nD) : V m c main_v3 = laid (argQ m c) := by
  unfold V V0
  simp only [hostOps0, List.flatten_cons, List.flatten_nil, List.append_nil]
  after_results <;> rfl

/-- Grid point `t` reads block `t` of the first operand. -/
theorem index_0 : ∀ t : Fin cfg0.N, win0_0.index t 0 = 0 ∧ win0_0.index t 1 = t.val ∧ win0_0.index t 2 = 0 := by decide +kernel

/-- Grid point `t` reads block `t` of the second operand. -/
theorem index_1 : ∀ t : Fin cfg0.N, win0_1.index t 0 = 0 ∧ win0_1.index t 1 = t.val ∧ win0_1.index t 2 = 0 := by decide +kernel

/-- Grid point `t` adds to the partial result of its row of the grid. -/
theorem index_2 : ∀ t : Fin cfg0.N, win0_2.index t 0 = t.val / 8 ∧ win0_2.index t 1 = 0 ∧ win0_2.index t 2 = 0 := by decide +kernel

/-- An entry of block `t` of the first operand, as an entry of the argument. -/
theorem block_P (c : Dev nD) (t : Fin cfg0.N) (ht : t.val < 16) (ch : Fin 10) (r : Fin 1024) (l : Fin 128) :
    (iblk m c 0 t : Vec Ideal S10x1024x128 .f32) (ix3 ch r l) = argP m c (ix3 ⟨(t.val * 1024 + r.val) * 128 + l.val, by omega⟩ ch 0) := by
  unfold iblk
  rw [View.read_apply]
  show V m c main_v1 _ = _
  rw [V_P, ← laid_apply (argP m c) ch ⟨t.val * 1024 + r.val, by omega⟩ l]
  refine congrArg (laid (argP m c)) (funext fun a => Fin.ext ?_)
  obtain ⟨h0, h1, h2⟩ := index_0 t
  match a with
  | ⟨0, _⟩ => show win0_0.index t 0 * 10 + 1 * ch.val = ch.val; rw [h0]; omega
  | ⟨1, _⟩ => show win0_0.index t 1 * 1024 + 1 * r.val = t.val * 1024 + r.val; rw [h1]; omega
  | ⟨2, _⟩ => show win0_0.index t 2 * 128 + 1 * l.val = l.val; rw [h2]; omega

/-- An entry of block `t` of the second operand, as an entry of the argument. -/
theorem block_Q (c : Dev nD) (t : Fin cfg0.N) (ht : t.val < 16) (ch : Fin 10) (r : Fin 1024) (l : Fin 128) :
    (iblk m c 1 t : Vec Ideal S10x1024x128 .f32) (ix3 ch r l) = argQ m c (ix3 ⟨(t.val * 1024 + r.val) * 128 + l.val, by omega⟩ ch 0) := by
  unfold iblk
  rw [View.read_apply]
  show V m c main_v3 _ = _
  rw [V_Q, ← laid_apply (argQ m c) ch ⟨t.val * 1024 + r.val, by omega⟩ l]
  refine congrArg (laid (argQ m c)) (funext fun a => Fin.ext ?_)
  obtain ⟨h0, h1, h2⟩ := index_1 t
  match a with
  | ⟨0, _⟩ => show win0_1.index t 0 * 10 + 1 * ch.val = ch.val; rw [h0]; omega
  | ⟨1, _⟩ => show win0_1.index t 1 * 1024 + 1 * r.val = t.val * 1024 + r.val; rw [h1]; omega
  | ⟨2, _⟩ => show win0_1.index t 2 * 128 + 1 * l.val = l.val; rw [h2]; omega

/-- The factor in front of every sum. -/
abbrev scale : EReal := (((Real.sqrt 43980465111040)⁻¹ : ℝ) : EReal)

/-- The roots of the samples of block `t`, added up. -/
def blockSum (c : Dev nD) (t : ℕ) : EReal :=
  ∑ n ∈ Finset.range 131072, Cert.Sample.root (Cert.Sample.gap (argP m c) (argQ m c) (t * 131072 + n))

/-- A block's sum is not negative. -/
theorem blockSum_nonneg (c : Dev nD) (t : ℕ) : 0 ≤ blockSum m c t := Finset.sum_nonneg fun _ _ => Cert.Sample.root_nonneg _

/-- What grid point `t` computes before scaling. -/
theorem block_total (c : Dev nD) (t : Fin cfg0.N) :
    (∑ r : Fin 64, ∑ l : Fin 128, Block.partV (Block.gaps (iblk m c 0 t : Vec Ideal S10x1024x128 .f32) (iblk m c 1 t : Vec Ideal S10x1024x128 .f32)) 16 (ix2 r l))
      = blockSum m c t.val := by
  have ht : t.val < 16 := Nat.lt_of_lt_of_eq t.isLt N_0
  refine Block.block_sum _ _ (Cert.Sample.gap (argP m c) (argQ m c)) t.val fun ch r l => ?_
  rw [block_P m c t ht, block_Q m c t ht]
  unfold Cert.Sample.gap
  rw [dif_pos ⟨by omega, ch.isLt⟩]

/-- After point `n` the output block holds the scaled sum of its row's blocks so far. -/
theorem outsAt_eq (c : Dev nD) : ∀ (n : ℕ) (h : n < cfg0.N) (a b d : Fin 1),
    outsAt0 m c n h (ix3 a b d) = (∑ i ∈ Finset.range (n % 8 + 1), blockSum m c (n / 8 * 8 + i)) * scale := by
  have hA : ∀ (n : ℕ) (h : n < cfg0.N) (h0 : n % 8 = 0) (a b d : Fin 1),
      outsAt0 m c n h (ix3 a b d) = (∑ i ∈ Finset.range (n % 8 + 1), blockSum m c (n / 8 * 8 + i)) * scale := by
    intro n h h0 a b d
    rw [outsAt0_A m c ⟨n, h⟩ h0, Block.out_A, Block.close_apply, Block.k0_pay2_apply, zero_add, block_total, h0,
      Nat.zero_add, Finset.sum_range_one, show n / 8 * 8 + 0 = n by omega]
  intro n
  induction n with
  | zero => exact fun h => hA 0 h rfl
  | succ n ih =>
    intro h a b d
    by_cases h0 : (n + 1) % 8 = 0
    · exact hA _ h h0 a b d
    · rw [outsAt0_B m c ⟨n + 1, h⟩ h0, Block.out_B, Block.close_apply, block_total]
      show outsAt0 m c n _ (ix3 a b d) + blockSum m c (n + 1) * scale = _
      rw [ih, show (n + 1) % 8 = n % 8 + 1 by omega, show (n + 1) / 8 = n / 8 by omega, Finset.sum_range_succ (n := n % 8 + 1),
        EReal.right_distrib_of_nonneg (Finset.sum_nonneg fun _ _ => blockSum_nonneg m c _) (blockSum_nonneg m c _),
        show n / 8 * 8 + (n % 8 + 1) = n + 1 by omega]

/-- The two partial results. -/
def result (c : Dev nD) : Buf (Elt Ideal) ((c : Thread nD τ).loc main_v4) :=
  (fun i => (∑ k ∈ Finset.range 8, blockSum m c ((i 0).val * 8 + k)) * scale : FVec Ideal S2x1x1 .f32)

/-- The last point of a row of the grid writes its partial result back. -/
theorem flushed_eq (c : Dev nD) (t : Fin cfg0.N) (hf : (cfg0.win 2).flush t = true) :
    (dats m 0 c).flushed 2 t = ((cfg0.win 2).blk t).view.read (Elt Ideal) (result m c) := by
  have ht : t.val < 16 := Nat.lt_of_lt_of_eq t.isLt N_0
  have h7 : t.val % 8 = 7 := (flush0_2 t).mp hf
  show (cfg0.win 2).cut (grid0.coords t) ((dats m 0 c).after 2 t) = _
  rw [after0_2]
  funext y
  rw [View.read_apply]
  have hy : (outsAt0 m c t.val t.isLt : FVec Ideal S1x1x1 .f32) (ix3 0 0 0) = (∑ k ∈ Finset.range 8, blockSum m c (t.val / 8 * 8 + k)) * scale := by
    rw [outsAt_eq, h7]
  refine Eq.trans (b := (outsAt0 m c t.val t.isLt : FVec Ideal S1x1x1 .f32) (ix3 0 0 0)) ?_ (hy.trans ?_)
  · show (outsAt0 m c t.val t.isLt : FVec Ideal S1x1x1 .f32) _ = _
    refine congrArg (outsAt0 m c t.val t.isLt : FVec Ideal S1x1x1 .f32) (funext fun a => Fin.ext ?_)
    have hy : (y a).val < 1 := by
      match a with
      | ⟨0, _⟩ => exact (y 0).isLt
      | ⟨1, _⟩ => exact (y 1).isLt
      | ⟨2, _⟩ => exact (y 2).isLt
    match a with
    | ⟨0, _⟩ => show (y 0).val = 0; exact Nat.lt_one_iff.mp hy
    | ⟨1, _⟩ => show (y 1).val = 0; exact Nat.lt_one_iff.mp hy
    | ⟨2, _⟩ => show (y 2).val = 0; exact Nat.lt_one_iff.mp hy
  · show _ = (∑ k ∈ Finset.range 8, blockSum m c ((win0_2.index t 0 * 1 + 1 * (y 0).val) * 8 + k)) * scale
    have h0 : (y 0).val < 1 := (y 0).isLt
    rw [(index_2 t).1, show t.val / 8 * 1 + 1 * (y 0).val = t.val / 8 by omega]

/-- The array of partial results after the whole grid. -/
theorem final_o (c : Dev nD) : (dats m 0 c).arrAt 2 cfg0.N = result m c :=
  (dats m 0 c).arrAt_eq_of_cover 2 (result m c) (flushed_eq m c) fun i => by
    have h0 : (i 0 : Nat) < 2 := (i 0).isLt
    have h1 : (i 1 : Nat) < 1 := (i 1).isLt
    have h2 : (i 2 : Nat) < 1 := (i 2).isLt
    have hN : cfg0.N = 16 := N_0
    obtain ⟨t, ht⟩ : ∃ t : Fin cfg0.N, t.val = (i 0 : Nat) * 8 + 7 := ⟨⟨(i 0 : Nat) * 8 + 7, by omega⟩, rfl⟩
    refine ⟨t, (flush0_2 t).mpr (by omega), ?_⟩
    obtain ⟨e0, e1, e2⟩ := index_2 t
    show i ∈ ((View.whole main_v4).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [e0]; omega
    | ⟨1, _⟩ =>
      show win0_2.index t 1 * 1 ≤ (i 1 : Nat) ∧ (i 1 : Nat) < win0_2.index t 1 * 1 + 1
      rw [e1]; omega
    | ⟨2, _⟩ =>
      show win0_2.index t 2 * 1 ≤ (i 2 : Nat) ∧ (i 2 : Nat) < win0_2.index t 2 * 1 + 1
      rw [e2]; omega

/-- What the program returns. -/
def answer (c : Dev nD) : FVec Ideal S_ .f32 := fun _ =>
  (∑ n ∈ Finset.range 2097152, Cert.Sample.root (Cert.Sample.gap (argP m c) (argQ m c) n)) * scale

/-- The two partial results add up to the answer. -/
theorem total_eq (c : Dev nD) :
    (Host.reduceAdd (result m c : FVec Ideal S2x1x1 .f32) (constant S_ .f32 0x00000000#32) reducesTo_S2x1x1_S_d0_1_2 h_S_ : FVec Ideal S_ .f32) = answer m c := by
  funext y
  unfold answer
  have hsum : (∑ n ∈ Finset.range 2097152, Cert.Sample.root (Cert.Sample.gap (argP m c) (argQ m c) n))
      = ∑ i ∈ Finset.range 2, ∑ k ∈ Finset.range 8, blockSum m c (i * 8 + k) := by
    rw [show (2097152 : ℕ) = 16 * 131072 from rfl, Cert.Sample.sum_rows, show (16 : ℕ) = 2 * 8 from rfl, Cert.Sample.sum_rows]
    rfl
  rw [hsum, ← Cert.Sample.sum_mul scale _ (fun i => Finset.sum_nonneg fun k _ => blockSum_nonneg m c (i * 8 + k)), Finset.sum_range]
  pointwise [result]
  simp only [Fin.sum_univ_one]

/-- The lines after the kernel find its partial results in their array. -/
theorem exit_o (c : Dev nD) :
    Pipeline.withArrays spec0 c (V0 m c) (fun w => (dats m 0 c).arrAt w cfg0.N) (Proc.devRef .tc main_v4) = (dats m 0 c).arrAt 2 cfg0.N :=
  Pipeline.withArrays_arr spec0 winFacts0.arr_inj c (V0 m c) (fun w => (dats m 0 c).arrAt w cfg0.N) 2

/-- The program's returned buffer. -/
theorem tail_eq (c : Dev nD) : Pipeline.afterTail₀ cfgs (dats m) 0 (V0 m) [hostOps1] c main_v5 = answer m c := by
  rw [← total_eq, ← final_o]
  unfold Pipeline.afterTail₀
  simp only [hostOps1, List.flatten_cons, List.flatten_nil, List.append_nil]
  after_results
  exact congrArg (fun x : FVec Ideal S2x1x1 .f32 => (Host.reduceAdd x (constant S_ .f32 0x00000000#32) reducesTo_S2x1x1_S_d0_1_2 h_S_ : FVec Ideal S_ .f32)) (exit_o m c)

/-- Every run of the program returns the answer and leaves its arguments unchanged. -/
theorem run : θ_run defs (onTc (τ := τ) (main (F := Ideal))) ⟨m, fun _ => 0, ρ⟩ fun r => ∀ c : Dev nD,
      r.2.mem ((c : Thread nD τ).loc main_v5) = answer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Total

end
-- ==== Proof.Ref.lean ====
/- What the reference computes: the mean over the batch of each sample's root, as one sum times one constant. -/
module

public import proofs.«01_k».proof.Proof.Gen.ReferenceIdeal.Run
public import proofs.«01_k».proof.Proof.Sample
public import Idealize.ShloMosaic.Lib.Pointwise
public import Idealize.ShloMosaic.Lib.IdealHost

@[expose] public section

set_option maxRecDepth 16384

noncomputable section

namespace Cert.ReferenceIdeal.Mean

open Idealize.ShloMosaic Idealize.ShloMosaic.TcCoe Idealize.SL.Sem
open Cert.ReferenceIdeal Cert.ReferenceIdeal.Gen

/-- A window of ten ending at `j`, read over nine positions of padding, is the sum up to `j`. -/
theorem window_sum (D : ℕ → EReal) (j : ℕ) (hj : j < 10) :
    (∑ b ∈ Finset.range 10, if 9 ≤ j + b ∧ j + b - 9 < 10 then D (j + b - 9) else 0) = Cert.Sample.prefixSum D j := by
  unfold Cert.Sample.prefixSum
  interval_cases j <;> simp [Finset.sum_range_succ]

/-- Adding up a list from the left is the sum. -/
theorem fold_sum {n : ℕ} (g : Fin n → EReal) : (List.finRange n).foldl (fun r i => r + g i) 0 = ∑ i, g i := by
  rw [Fin.sum_univ_def, List.sum_eq_foldl, List.foldl_map]

/-- The entry a window position reads: the operand's, or zero in the padding before it. -/
def padded (x : FVec Ideal S2097152x10 .f32) (b : Fin 2097152) (c : Fin 10) (w : (⟨2, ![1, 10]⟩ : Shape).Idx) : EReal :=
  if hin : ∀ a : Fin S2097152x10.rank, (![0, 9] : Fin 2 → ℕ) a ≤ (ix2 b c a).val * (![1, 1] : Fin 2 → ℕ) a + (w a).val
      ∧ (ix2 b c a).val * (![1, 1] : Fin 2 → ℕ) a + (w a).val - (![0, 9] : Fin 2 → ℕ) a < S2097152x10.size a then
    x (fun a => ⟨(ix2 b c a).val * (![1, 1] : Fin 2 → ℕ) a + (w a).val - (![0, 9] : Fin 2 → ℕ) a, (hin a).2⟩)
  else 0

/-- Which entry a window position reads, in plain indices. -/
theorem padded_apply (x : FVec Ideal S2097152x10 .f32) (b : Fin 2097152) (c : Fin 10) (a : Fin 1) (k : Fin 10) :
    padded x b c (ix2 a k) = if 9 ≤ c.val + k.val ∧ c.val + k.val - 9 < 10 then
      (fun i => if h : i < 10 then x (ix2 b ⟨i, h⟩) else 0) (c.val + k.val - 9) else 0 := by
  unfold padded
  have ha : a.val = 0 := by omega
  by_cases h : 9 ≤ c.val + k.val ∧ c.val + k.val - 9 < 10
  · have hin : ∀ a' : Fin S2097152x10.rank, (![0, 9] : Fin 2 → ℕ) a' ≤ (ix2 b c a').val * (![1, 1] : Fin 2 → ℕ) a' + (ix2 a k a').val
        ∧ (ix2 b c a').val * (![1, 1] : Fin 2 → ℕ) a' + (ix2 a k a').val - (![0, 9] : Fin 2 → ℕ) a' < S2097152x10.size a' := by
      intro a'
      fin_cases a'
      · show 0 ≤ b.val * 1 + a.val ∧ b.val * 1 + a.val - 0 < 2097152
        omega
      · show 9 ≤ c.val * 1 + k.val ∧ c.val * 1 + k.val - 9 < 10
        omega
    rw [dif_pos hin, if_pos h]
    dsimp only
    rw [dif_pos h.2]
    refine congrArg x (funext fun a' => Fin.ext ?_)
    fin_cases a'
    · show b.val * 1 + a.val - 0 = b.val
      omega
    · show c.val * 1 + k.val - 9 = c.val + k.val - 9
      omega
  · rw [if_neg h, dif_neg]
    intro hin
    have h1 : 9 ≤ c.val * 1 + k.val ∧ c.val * 1 + k.val - 9 < 10 := hin (1 : Fin 2)
    omega

/-- The reference's cumulative sum at an index. -/
theorem cumsum_apply (x : FVec Ideal S2097152x10 .f32) (v : FVec Ideal S_ .f32) (hv : v (Shape.Idx.first h_S_) = 0) (b : Fin 2097152) (c : Fin 10) :
    Host.reduceWindowAdd ![1, 10] ![1, 1] ![0, 9] ![0, 0] x v reduceWindows_S2097152x10_S2097152x10_w1s1p0_0_w10s1p9_0 h_S_ (ix2 b c)
      = Cert.Sample.prefixSum (fun i => if h : i < 10 then x (ix2 b ⟨i, h⟩) else 0) c.val := by
  unfold Host.reduceWindowAdd
  rw [hv, Ideal.hostReduceWindowAdd_def]
  unfold Ideal.hostReduceWindowAdd Host.reduceWindow
  refine Eq.trans ?_ ((fold_sum (fun n => padded x b c ((Shape.rowMajor (⟨2, ![1, 10]⟩ : Shape)).symm n))).trans ?_)
  · refine congrArg (fun f => List.foldl f (0 : EReal) (List.finRange (Shape.numel (⟨2, ![1, 10]⟩ : Shape)))) (funext fun r => funext fun n => congrArg (r + ·) ?_)
    exact dite_congr rfl (fun _ => rfl) (fun _ => rfl)
  rw [Equiv.sum_comp (Shape.rowMajor (⟨2, ![1, 10]⟩ : Shape)).symm (padded x b c), sum_idx2, Fin.sum_univ_one,
    ← window_sum _ c.val c.isLt, Finset.sum_range]
  exact Finset.sum_congr rfl fun k _ => padded_apply x b c 0 k

/-- The divisor of the mean over the bins. -/
theorem bits_ten : Ideal.ofBits .f32 0x41200000#32 = ((10 : ℝ) : EReal) := by
  simp [Ideal.ofBits, Ideal.ieee, -EReal.coe_mul]; norm_num

/-- The divisor of the mean over the samples. -/
theorem bits_batch : Ideal.ofBits .f32 0x4A000000#32 = ((2097152 : ℝ) : EReal) := by
  simp [Ideal.ofBits, Ideal.ieee, -EReal.coe_mul]; norm_num

/-- The exponent as a real number. -/
theorem two_eq : (FloatOps.sitofp FTy.f32 2#32 : Ideal .f32) = ((2 : ℝ) : EReal) := by
  show (((2#32 : BitVec 32).toInt : ℝ) : EReal) = _
  rw [show (2#32 : BitVec 32).toInt = 2 by decide]
  norm_num

/-- Its inverse. -/
theorem half_eq (y : S_.Idx) : (id (Host.divf (constant S_ .f32 0x3F800000#32) (sitofp .f32 (fun _ => 2#32))) : FVec Ideal S_ .f32) y = ((1 / 2 : ℝ) : EReal) := by
  show Ideal.div (Ideal.ofBits .f32 0x3F800000#32) (FloatOps.sitofp FTy.f32 2#32 : Ideal .f32) = _
  rw [two_eq, Ideal.ofBits_one_f32, Ideal.div_coe (by norm_num), one_mul]

/-- The padding value of the cumulative sum. -/
theorem zero_eq (y : S_.Idx) : (broadcastInDim S_ ![] bcast_S_S_ (constant S_ .f32 0x00000000#32) : FVec Ideal S_ .f32) y = 0 := by
  pointwise

/-- Dropping the last axis, of extent one. -/
theorem squeeze_apply (x : FVec Ideal S2097152x10x1 .f32) (b : Fin 2097152) (c : Fin 10) :
    (shapeCast S2097152x10 x shapeCasts_S2097152x10x1_S2097152x10 : FVec Ideal S2097152x10 .f32) (ix2 b c) = x (ix3 b c 0) := by
  pointwise

/-- The reference's result at `r = 2`. -/
theorem result_eq (p q : FVec Ideal S2097152x10x1 .f32) (r : IVec S_ 32) (hr : r = fun _ => 2#32) (y : S_.Idx) :
    (Host.divf (Host.reduceAdd (Host.powf (Host.divf (Host.reduceAdd (Host.powf (Host.absf (Host.reduceWindowAdd ![1, 10] ![1, 1] ![0, 9] ![0, 0]
      (shapeCast S2097152x10 (subf p q) shapeCasts_S2097152x10x1_S2097152x10) (broadcastInDim S_ ![] bcast_S_S_ (constant S_ .f32 0x00000000#32)) reduceWindows_S2097152x10_S2097152x10_w1s1p0_0_w10s1p9_0 h_S_))
      (broadcastInDim S2097152x10 ![] bcast_S_S2097152x10 (sitofp .f32 r)))
      (constant S_ .f32 0x00000000#32) reducesTo_S2097152x10_S2097152_d1 h_S_) (broadcastInDim S2097152 ![] bcast_S_S2097152 (constant S_ .f32 0x41200000#32)))
      (broadcastInDim S2097152 ![] bcast_S_S2097152 (id (Host.divf (constant S_ .f32 0x3F800000#32) (sitofp .f32 r)))))
      (constant S_ .f32 0x00000000#32) reducesTo_S2097152_S_d0 h_S_) (constant S_ .f32 0x4A000000#32) : FVec Ideal S_ .f32) y
    = (∑ n ∈ Finset.range 2097152, Cert.Sample.root (Cert.Sample.gap p q n)) * (((Real.sqrt 43980465111040)⁻¹ : ℝ) : EReal) := by
  subst hr
  pointwise
  rw [bits_ten, bits_batch, half_eq, two_eq]
  have hs : ∀ b : Fin 2097152, ∀ c : Fin 10,
      Host.reduceWindowAdd ![1, 10] ![1, 1] ![0, 9] ![0, 0]
        (shapeCast S2097152x10 (subf p q) shapeCasts_S2097152x10x1_S2097152x10)
        (broadcastInDim S_ ![] bcast_S_S_ (constant S_ FTy.f32 0#32))
        reduceWindows_S2097152x10_S2097152x10_w1s1p0_0_w10s1p9_0 h_S_ (ix2 b c) = Cert.Sample.prefixSum (Cert.Sample.gap p q b.val) c.val := by
    intro b c
    rw [cumsum_apply _ _ (zero_eq _)]
    refine Cert.Sample.prefixSum_congr c.isLt fun i hi => ?_
    rw [dif_pos hi, squeeze_apply]
    unfold Cert.Sample.gap
    rw [dif_pos ⟨b.isLt, hi⟩]
    rfl
  have hroot : ∀ b : Fin 2097152, ∀ s : EReal, s = Cert.Sample.energy (Cert.Sample.gap p q b.val) →
      Ideal.pow (Ideal.div s ((10 : ℝ) : EReal)) ((1 / 2 : ℝ) : EReal) = Cert.Sample.root (Cert.Sample.gap p q b.val) * (((Real.sqrt 10)⁻¹ : ℝ) : EReal) := by
    rintro b s rfl
    exact Cert.Sample.pow_half _ (Cert.Sample.energy_nonneg _)
  rw [Ideal.div_coe (by norm_num), Finset.sum_congr rfl fun b _ => hroot b _ (by
    unfold Cert.Sample.energy
    rw [Finset.sum_range]
    refine Finset.sum_congr rfl fun c _ => ?_
    rw [hs]
    exact Cert.Sample.pow_abs_two _)]
  rw [← Finset.sum_range fun n => Cert.Sample.root (Cert.Sample.gap p q n) * (((Real.sqrt 10)⁻¹ : ℝ) : EReal),
    Cert.Sample.sum_mul _ _ (fun n => Cert.Sample.root_nonneg _), mul_assoc, ← EReal.coe_mul, Cert.Sample.scales]

end Cert.ReferenceIdeal.Mean

end
-- ==== Proof.lean ====
/- The whole certificate: the frames of the three programs, the kernel against its idealized form, and
   the idealized kernel against the reference. The facts about the values are in Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_r_is_two
public import proofs.«01_k».proof.Proof.Gen.ReferenceIdeal.Run
public import proofs.«01_k».proof.Proof.Array
public import proofs.«01_k».proof.Proof.Ref
public import Idealize.ShloMosaic.Adequacy
public import Idealize.ShloMosaic.Init
public import Idealize.ShloMosaic.Lib.Quiescent

@[expose] public section

noncomputable section

namespace Cert.Proof

open Idealize.ShloMosaic Idealize.SL.Sem

/-- An integer that compares equal to two is two. -/
theorem eq_two (r : IVec Cert.KernelIdeal.S_ 32) (h : cmpi .eq r (constantI Cert.KernelIdeal.S_ 32 2#32) = fun _ => 1#1) : r = fun _ => 2#32 := by
  funext y
  have hy := congrFun h y
  revert hy
  show BitVec.ofBool (r y == 2#32) = 1#1 → _
  by_cases e : r y = 2#32
  · exact fun _ => e
  · rw [beq_false_of_ne e]; exact fun h => absurd h (by decide)

/-- The idealized kernel and the idealized reference compute the same number. -/
theorem algebraic :
    Cert.algebraic_KernelIdeal_ReferenceIdeal_pre_r_is_two (hKernelIdeal := Cert.KernelIdeal.Gen.facts)
      (hReferenceIdeal := Cert.ReferenceIdeal.Gen.facts) (hPre_r_is_two := Cert.Pre_r_is_two.Gen.facts) := by
  intro m g m' g' hpre hargs
  have hr : ∀ c : Dev Cert.ReferenceIdeal.nD, m' ((c.tc : Thread Cert.ReferenceIdeal.nD Cert.ReferenceIdeal.τ).loc Cert.ReferenceIdeal.main_arg2) = fun _ => 2#32 := fun c =>
    (hargs c).2.2.trans (eq_two _ (hpre c))
  refine ⟨fun c => Cert.KernelIdeal.Total.answer m c, Cert.KernelIdeal.Total.run m g, ?_⟩
  refine (θ_run Cert.ReferenceIdeal.defs _ _).mono (fun r h c => ⟨(h c).1.trans (funext fun y => ?_), (h c).2⟩)
    (Cert.ReferenceIdeal.Value.run (F := Ideal) m' g')
  refine (Cert.ReferenceIdeal.Mean.result_eq _ _ _ (hr c) y).trans ?_
  rw [(hargs c).1, (hargs c).2.1]
  rfl

/-- The reference ends with its arguments unchanged; it declares no semaphore, so every counter reads zero. -/
theorem frame_ref : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- All the claims together. -/
theorem claim : Cert.Claim :=
  ⟨Cert.Kernel.Gen.facts, Cert.KernelIdeal.Gen.facts, Cert.ReferenceIdeal.Gen.facts, Cert.Pre_r_is_two.Gen.facts,
    fun m ρ _ => Cert.Kernel.Gen.frame m ρ,
    fun m ρ _ => Cert.KernelIdeal.Gen.frame m ρ,
    fun m ρ _ => Cert.KernelIdeal.Gen.frame m ρ,
    frame_ref,
    fun m ρ _ => frame_ref m ρ trivial,
    IdealRules.named_const.statement Cert.KernelIdeal.κ "scale" .f32 0x3421E89B#32 _ rfl,
    algebraic⟩

end Cert.Proof

end
